-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4096x4096 : Shape := ⟨2, ![4096, 4096]⟩
abbrev S128x4096 : Shape := ⟨2, ![128, 4096]⟩
abbrev S2944x4096 : Shape := ⟨2, ![2944, 4096]⟩
abbrev S128x64 : Shape := ⟨2, ![128, 64]⟩

abbrev nBuf : Space → Nat
  | .hbm => 4
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x64, .f32⟩
  | .local _ .vmem, ⟨0, _⟩ => ⟨S4096x64, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S4096x64, .f32⟩
  | .local _ .vmem, ⟨6, _⟩ => ⟨S2944x4096, .bf16⟩
  | .local _ .vmem, ⟨7, _⟩ => ⟨S2944x4096, .bf16⟩
  | .local _ .vmem, ⟨8, _⟩ => ⟨S4096x64, .bf16⟩
  | .local _ .vmem, ⟨9, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![6, 32], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c23_i32 : BitVec 32 := 23#32
  let v19 : BitVec 1 := Scalar.cmpi .slt arg1 c23_i32
  let v20 : BitVec 32 := Scalar.extui v19
  let c0_i32_5 : BitVec 32 := 0#32
  let v21 : BitVec 1 := Scalar.cmpi .ne v20 c0_i32_5
  v21

def k0_off1 (i : grid0.Coords) : Fin 2 → Nat :=
  let arg1 : BitVec 32 := BitVec.ofNat 32 (i 1).val
  let c128_i32 : BitVec 32 := 128#32
  let v0 : BitVec 32 := Scalar.muli arg1 c128_i32
  let v34 : Index := Scalar.indexCast v0
  let c0_11 : Index := 0#32
  ![v34.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v26 : Index := Scalar.indexCast v0
  let c0_8 : Index := 0#32
  ![v26.toNat, 0]
def k0_cond3 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond4 (i : grid0.Coords) : BitVec 1 :=
  let arg1 : BitVec 32 := BitVec.ofNat 32 (i 1).val
  let c23_i32 : BitVec 32 := 23#32
  let v19 : BitVec 1 := Scalar.cmpi .slt arg1 c23_i32
  let v20 : BitVec 32 := Scalar.extui v19
  let c0_i32_5 : BitVec 32 := 0#32
  let v21 : BitVec 1 := Scalar.cmpi .ne v20 c0_i32_5
  v21

def k0_off3 (i : grid0.Coords) : Fin 2 → Nat :=
  let arg1 : BitVec 32 := BitVec.ofNat 32 (i 1).val
  let c128_i32 : BitVec 32 := 128#32
  let v0 : BitVec 32 := Scalar.muli arg1 c128_i32
  let v37 : Index := Scalar.indexCast v0
  let c0_12 : Index := 0#32
  ![v37.toNat, 0]
def k0_off4 (i : grid0.Coords) : Fin 2 → Nat :=
  let arg1 : BitVec 32 := BitVec.ofNat 32 (i 1).val
  let c128_i32 : BitVec 32 := 128#32
  let v0 : BitVec 32 := Scalar.muli arg1 c128_i32
  let v24 : Index := Scalar.indexCast v0
  let c0_8 : Index := 0#32
  ![v24.toNat, 0]
def k0_cond5 (i : grid0.Coords) : BitVec 1 :=
  let arg0 : BitVec 32 := BitVec.ofNat 32 (i 0).val
  let c2_i32 : BitVec 32 := 2#32
  let v7 : BitVec 1 := Scalar.cmpi .eq arg0 c2_i32
  let c4_i32 : BitVec 32 := 4#32
  let v8 : BitVec 1 := Scalar.cmpi .eq arg0 c4_i32
  let v9 : BitVec 1 := Scalar.ori v7 v8
  let v10 : BitVec 32 := Scalar.extui v9
  let c0_i32_2 : BitVec 32 := 0#32
  let v11 : BitVec 1 := Scalar.cmpi .ne v10 c0_i32_2
  v11

def k0_cond6 (i : grid0.Coords) : BitVec 1 :=
  let arg1 : BitVec 32 := BitVec.ofNat 32 (i 1).val
  let c23_i32 : BitVec 32 := 23#32
  let v19 : BitVec 1 := Scalar.cmpi .slt arg1 c23_i32
  let v20 : BitVec 32 := Scalar.extui v19
  let c0_i32_5 : BitVec 32 := 0#32
  let v21 : BitVec 1 := Scalar.cmpi .ne v20 c0_i32_5
  v21

def k0_off5 (i : grid0.Coords) : Fin 2 → Nat :=
  let arg1 : BitVec 32 := BitVec.ofNat 32 (i 1).val
  let c128_i32 : BitVec 32 := 128#32
  let v0 : BitVec 32 := Scalar.muli arg1 c128_i32
  let v28 : Index := Scalar.indexCast v0
  let c0_7 : Index := 0#32
  ![v28.toNat, 0]
def k0_off6 (i : grid0.Coords) : Fin 2 → Nat :=
  let arg1 : BitVec 32 := BitVec.ofNat 32 (i 1).val
  let c128_i32 : BitVec 32 := 128#32
  let v0 : BitVec 32 := Scalar.muli arg1 c128_i32
  let v24 : Index := Scalar.indexCast v0
  let c0_6 : Index := 0#32
  ![v24.toNat, 0]
def k0_cond7 (i : grid0.Coords) : BitVec 1 :=
  let arg0 : BitVec 32 := BitVec.ofNat 32 (i 0).val
  let c3_i32 : BitVec 32 := 3#32
  let v12 : BitVec 1 := Scalar.cmpi .eq arg0 c3_i32
  let c5_i32 : BitVec 32 := 5#32
  let v13 : BitVec 1 := Scalar.cmpi .eq arg0 c5_i32
  let v14 : BitVec 1 := Scalar.ori v12 v13
  let v15 : BitVec 32 := Scalar.extui v14
  let c0_i32_3 : BitVec 32 := 0#32
  let v16 : BitVec 1 := Scalar.cmpi .ne v15 c0_i32_3
  v16

def k0_cond8 (i : grid0.Coords) : BitVec 1 :=
  let arg1 : BitVec 32 := BitVec.ofNat 32 (i 1).val
  let c23_i32 : BitVec 32 := 23#32
  let v17 : BitVec 1 := Scalar.cmpi .slt arg1 c23_i32
  let v18 : BitVec 32 := Scalar.extui v17
  let c0_i32_4 : BitVec 32 := 0#32
  let v19 : BitVec 1 := Scalar.cmpi .ne v18 c0_i32_4
  v19

def k0_off7 (i : grid0.Coords) : Fin 2 → Nat :=
  let arg1 : BitVec 32 := BitVec.ofNat 32 (i 1).val
  let c128_i32 : BitVec 32 := 128#32
  let v0 : BitVec 32 := Scalar.muli arg1 c128_i32
  let v30 : Index := Scalar.indexCast v0
  let c0_9 : Index := 0#32
  ![v30.toNat, 0]
def k0_off8 (i : grid0.Coords) : Fin 2 → Nat :=
  let arg1 : BitVec 32 := BitVec.ofNat 32 (i 1).val
  let c128_i32 : BitVec 32 := 128#32
  let v0 : BitVec 32 := Scalar.muli arg1 c128_i32
  let v21 : Index := Scalar.indexCast v0
  let c0 : Index := 0#32
  ![v21.toNat, 0]
def k0_cond9 (i : grid0.Coords) : BitVec 1 :=
  let arg0 : BitVec 32 := BitVec.ofNat 32 (i 0).val
  let c3_i32_5 : BitVec 32 := 3#32
  let v24 : BitVec 1 := Scalar.cmpi .eq arg0 c3_i32_5
  let v25 : BitVec 32 := Scalar.extui v24
  let c0_i32_6 : BitVec 32 := 0#32
  let v26 : BitVec 1 := Scalar.cmpi .ne v25 c0_i32_6
  v26

def k0_off9 (i : grid0.Coords) : Fin 2 → Nat :=
  let arg1 : BitVec 32 := BitVec.ofNat 32 (i 1).val
  let c128_i32 : BitVec 32 := 128#32
  let v0 : BitVec 32 := Scalar.muli arg1 c128_i32
  let v30 : Index := Scalar.indexCast v0
  let c0_9 : Index := 0#32
  ![v30.toNat, 0]
def k0_cond10 (i : grid0.Coords) : BitVec 1 :=
  let arg0 : BitVec 32 := BitVec.ofNat 32 (i 0).val
  let c5_i32_7 : BitVec 32 := 5#32
  let v27 : BitVec 1 := Scalar.cmpi .eq arg0 c5_i32_7
  let v28 : BitVec 32 := Scalar.extui v27
  let c0_i32_8 : BitVec 32 := 0#32
  let v29 : BitVec 1 := Scalar.cmpi .ne v28 c0_i32_8
  v29

def k0_off10 (i : grid0.Coords) : Fin 2 → Nat :=
  let arg1 : BitVec 32 := BitVec.ofNat 32 (i 1).val
  let c128_i32 : BitVec 32 := 128#32
  let v0 : BitVec 32 := Scalar.muli arg1 c128_i32
  let v30 : Index := Scalar.indexCast v0
  let c0_9 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 1 := Scalar.cmpi .eq arg0 c2_i32
  let c4_i32 : BitVec 32 := 4#32
  let v2 : BitVec 1 := Scalar.cmpi .eq arg0 c4_i32
  let v3 : BitVec 1 := Scalar.ori v1 v2
  let c23_i32 : BitVec 32 := 23#32
  let v4 : BitVec 32 := Scalar.maxsi arg1 c23_i32
  let c31_i32 : BitVec 32 := 31#32
  let v5 : BitVec 32 := Scalar.select v3 v4 c31_i32
  let v6 : BitVec 32 := Scalar.select v0 arg1 v5
  let c0_i32_0 : BitVec 32 := 0#32
  let c0_i32_1 : BitVec 32 := 0#32
  ![v6.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c3_i32 : BitVec 32 := 3#32
  let v1 : BitVec 1 := Scalar.cmpi .eq arg0 c3_i32
  let c5_i32 : BitVec 32 := 5#32
  let v2 : BitVec 1 := Scalar.cmpi .eq arg0 c5_i32
  let v3 : BitVec 1 := Scalar.ori v1 v2
  let c23_i32 : BitVec 32 := 23#32
  let v4 : BitVec 32 := Scalar.maxsi arg1 c23_i32
  let c0_i32 : BitVec 32 := 0#32
  let v5 : BitVec 1 := Scalar.cmpi .eq arg0 c0_i32
  let c0_i32_0 : BitVec 32 := 0#32
  let c31_i32 : BitVec 32 := 31#32
  let v6 : BitVec 32 := Scalar.select v5 c0_i32_0 c31_i32
  let v7 : BitVec 32 := Scalar.select v3 v4 v6
  let v8 : BitVec 32 := Scalar.select v0 arg1 v7
  let c0_i32_1 : BitVec 32 := 0#32
  let c0_i32_2 : BitVec 32 := 0#32
  ![v8.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4096x64 : Shape := ⟨2, ![4096, 64]⟩
abbrev S4096x4096 : Shape := ⟨2, ![4096, 4096]⟩
abbrev S1x4096x64 : Shape := ⟨3, ![1, 4096, 64]⟩
abbrev S4x4096x64 : Shape := ⟨3, ![4, 4096, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S1x4096x64, .f32⟩
  | .hbm, ⟨13, _⟩ => ⟨S1x4096x64, .f32⟩
  | .hbm, ⟨14, _⟩ => ⟨S1x4096x64, .f32⟩
  | .hbm, ⟨15, _⟩ => ⟨S1x4096x64, .f32⟩
  | .hbm, ⟨16, _⟩ => ⟨S4x4096x64, .f32⟩
  | .hbm, ⟨17, _⟩ => ⟨S_, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Step.lean ====
/-
  The kernel's work at one grid point as a pure function of the buffers: point (p, j) works on the 128 rows of block `j`
  in phase `p`. The branch conditions and row offsets the kernel computes are put in closed form, a block of rows is a
  window of an array (`rows`, `wide`) and a store of one is the array with that window replaced (`putRows`, `putWide`).
  Nothing here mentions memory.
-/
module

public import proofs.«01_k».proof.Proof.Gen.KernelIdeal.Frame
public import proofs.«01_k».proof.Proof.Gen.KernelIdeal.Skeleton
public import Idealize.ShloMosaic.Lib.VecWindow

@[expose] public section

noncomputable section

namespace Cert.Proof

open Cert.KernelIdeal Cert.KernelIdeal.Gen
open Idealize.ShloMosaic

/-! ## The conditions and the offsets in closed form -/

/-- The row block of a grid point. -/
abbrev blk (i : grid0.Coords) : Fin 32 := i 1
/-- The phase of a grid point. -/
abbrev ph (i : grid0.Coords) : Fin 6 := i 0

theorem cond1_iff (i : grid0.Coords) : k0_cond1 i = 1#1 ↔ ph i = 0 := by
  have h : ∀ p : Fin 6, Scalar.cmpi .ne (Scalar.extui (Scalar.cmpi .eq (BitVec.ofNat 32 p.val) 0#32) : BitVec 32) 0#32 = 1#1 ↔ p = 0 := by decide
  exact h (ph i)
theorem cond3_iff (i : grid0.Coords) : k0_cond3 i = 1#1 ↔ ph i = 1 := by
  have h : ∀ p : Fin 6, Scalar.cmpi .ne (Scalar.extui (Scalar.cmpi .eq (BitVec.ofNat 32 p.val) 1#32) : BitVec 32) 0#32 = 1#1 ↔ p = 1 := by decide
  exact h (ph i)
theorem cond9_iff (i : grid0.Coords) : k0_cond9 i = 1#1 ↔ ph i = 3 := by
  have h : ∀ p : Fin 6, Scalar.cmpi .ne (Scalar.extui (Scalar.cmpi .eq (BitVec.ofNat 32 p.val) 3#32) : BitVec 32) 0#32 = 1#1 ↔ p = 3 := by decide
  exact h (ph i)
theorem cond10_iff (i : grid0.Coords) : k0_cond10 i = 1#1 ↔ ph i = 5 := by
  have h : ∀ p : Fin 6, Scalar.cmpi .ne (Scalar.extui (Scalar.cmpi .eq (BitVec.ofNat 32 p.val) 5#32) : BitVec 32) 0#32 = 1#1 ↔ p = 5 := by decide
  exact h (ph i)
theorem cond5_iff (i : grid0.Coords) : k0_cond5 i = 1#1 ↔ ph i = 2 ∨ ph i = 4 := by
  have h : ∀ p : Fin 6, Scalar.cmpi .ne (Scalar.extui (Scalar.ori (Scalar.cmpi .eq (BitVec.ofNat 32 p.val) 2#32) (Scalar.cmpi .eq (BitVec.ofNat 32 p.val) 4#32)) : BitVec 32) 0#32 = 1#1 ↔ p = 2 ∨ p = 4 := by decide
  exact h (ph i)
theorem cond7_iff (i : grid0.Coords) : k0_cond7 i = 1#1 ↔ ph i = 3 ∨ ph i = 5 := by
  have h : ∀ p : Fin 6, Scalar.cmpi .ne (Scalar.extui (Scalar.ori (Scalar.cmpi .eq (BitVec.ofNat 32 p.val) 3#32) (Scalar.cmpi .eq (BitVec.ofNat 32 p.val) 5#32)) : BitVec 32) 0#32 = 1#1 ↔ p = 3 ∨ p = 5 := by decide
  exact h (ph i)
/-- A block is resident in bf16 when it is one of the first 23. -/
theorem cond2_iff (i : grid0.Coords) : k0_cond2 i = 1#1 ↔ (blk i).val < 23 := by
  have h : ∀ p : Fin 32, Scalar.cmpi .ne (Scalar.extui (Scalar.cmpi .slt (BitVec.ofNat 32 p.val) 23#32) : BitVec 32) 0#32 = 1#1 ↔ p.val < 23 := by decide
  exact h (blk i)
theorem cond4_iff (i : grid0.Coords) : k0_cond4 i = 1#1 ↔ (blk i).val < 23 := cond2_iff i
theorem cond6_iff (i : grid0.Coords) : k0_cond6 i = 1#1 ↔ (blk i).val < 23 := cond2_iff i
theorem cond8_iff (i : grid0.Coords) : k0_cond8 i = 1#1 ↔ (blk i).val < 23 := cond2_iff i

/-- The row offset of a point's block. -/
theorem off2_eq (i : grid0.Coords) : k0_off2 i = ![128 * (blk i).val, 0] := by
  have h : ∀ p : Fin 32, (Scalar.indexCast (Scalar.muli (BitVec.ofNat 32 p.val) 128#32) : Index).toNat = 128 * p.val := by decide
  exact congrArg (fun n : ℕ => (![n, 0] : Fin 2 → ℕ)) (h (blk i))
theorem off1_eq (i : grid0.Coords) : k0_off1 i = ![128 * (blk i).val, 0] := off2_eq i
theorem off3_eq (i : grid0.Coords) : k0_off3 i = ![128 * (blk i).val, 0] := off2_eq i
theorem off4_eq (i : grid0.Coords) : k0_off4 i = ![128 * (blk i).val, 0] := off2_eq i
theorem off5_eq (i : grid0.Coords) : k0_off5 i = ![128 * (blk i).val, 0] := off2_eq i
theorem off6_eq (i : grid0.Coords) : k0_off6 i = ![128 * (blk i).val, 0] := off2_eq i
theorem off7_eq (i : grid0.Coords) : k0_off7 i = ![128 * (blk i).val, 0] := off2_eq i
theorem off8_eq (i : grid0.Coords) : k0_off8 i = ![128 * (blk i).val, 0] := off2_eq i
theorem off9_eq (i : grid0.Coords) : k0_off9 i = ![128 * (blk i).val, 0] := off2_eq i
theorem off10_eq (i : grid0.Coords) : k0_off10 i = ![128 * (blk i).val, 0] := off2_eq i

/-! ## Blocks of 128 rows -/

section Rows
variable {α : Type}

theorem inb_rows (j : Fin 32) : ∀ a, (![128 * j.val, 0] : Fin 2 → ℕ) a + S128x64.size a ≤ S4096x64.size a := by
  intro a
  have := j.isLt
  fin_cases a
  · show 128 * j.val + 128 ≤ 4096; omega
  · show 0 + 64 ≤ 64; omega

theorem inb_wide (j : Fin 32) (h : j.val < 23) : ∀ a, (![128 * j.val, 0] : Fin 2 → ℕ) a + S128x4096.size a ≤ S2944x4096.size a := by
  intro a
  fin_cases a
  · show 128 * j.val + 128 ≤ 2944; omega
  · show 0 + 4096 ≤ 4096; omega

theorem inb_block (j : Fin 32) : ∀ a, (![128 * j.val, 0] : Fin 2 → ℕ) a + S128x4096.size a ≤ S4096x4096.size a := by
  intro a
  have := j.isLt
  fin_cases a
  · show 128 * j.val + 128 ≤ 4096; omega
  · show 0 + 4096 ≤ 4096; omega

/-- Rows `128 j … 128 j + 127` of an array of 4096 rows of 64. -/
def rows (j : Fin 32) (x : S4096x64.Idx → α) : S128x64.Idx → α :=
  VecWindow.window x ![128 * j.val, 0] S128x64.size (inb_rows j)
/-- The array with those rows replaced. -/
def putRows (j : Fin 32) (x : S4096x64.Idx → α) (w : S128x64.Idx → α) : S4096x64.Idx → α :=
  VecWindow.put x ![128 * j.val, 0] S128x64.size w
/-- Rows `128 j … 128 j + 127` of a resident array of 2944 rows of 4096. -/
def wide (j : Fin 32) (h : j.val < 23) (x : S2944x4096.Idx → α) : S128x4096.Idx → α :=
  VecWindow.window x ![128 * j.val, 0] S128x4096.size (inb_wide j h)
/-- The resident array with those rows replaced. -/
def putWide (j : Fin 32) (x : S2944x4096.Idx → α) (w : S128x4096.Idx → α) : S2944x4096.Idx → α :=
  VecWindow.put x ![128 * j.val, 0] S128x4096.size w
/-- Rows `128 j … 128 j + 127` of a square operand. -/
def block (j : Fin 32) (x : S4096x4096.Idx → α) : S128x4096.Idx → α :=
  VecWindow.window x ![128 * j.val, 0] S128x4096.size (inb_block j)

theorem rows_putRows_same (j : Fin 32) (x : S4096x64.Idx → α) (w : S128x64.Idx → α) : rows j (putRows j x w) = w :=
  VecWindow.window_put_same x _ _ (inb_rows j) w

theorem rows_putRows_ne {k j : Fin 32} (h : k ≠ j) (x : S4096x64.Idx → α) (w : S128x64.Idx → α) :
    rows k (putRows j x w) = rows k x :=
  VecWindow.window_put_of_disjoint x _ _ _ _ (inb_rows k) w 0 (by
    show 128 * k.val + 128 ≤ 128 * j.val ∨ 128 * j.val + 128 ≤ 128 * k.val
    have : k.val ≠ j.val := fun e => h (Fin.ext e)
    omega)

theorem wide_putWide_same (j : Fin 32) (h : j.val < 23) (x : S2944x4096.Idx → α) (w : S128x4096.Idx → α) :
    wide j h (putWide j x w) = w :=
  VecWindow.window_put_same x _ _ (inb_wide j h) w

theorem wide_putWide_ne {k j : Fin 32} (hk : k.val < 23) (h : k ≠ j) (x : S2944x4096.Idx → α) (w : S128x4096.Idx → α) :
    wide k hk (putWide j x w) = wide k hk x :=
  VecWindow.window_put_of_disjoint x _ _ _ _ (inb_wide k hk) w 0 (by
    show 128 * k.val + 128 ≤ 128 * j.val ∨ 128 * j.val + 128 ≤ 128 * k.val
    have : k.val ≠ j.val := fun e => h (Fin.ext e)
    omega)

end Rows

/-! ## One point's work -/

variable {F : FTy → Type} [FloatOps F]

/-- What the kernel reads and writes between points: the result being accumulated, the two resident bf16 copies, the
    message of the current layer and the embeddings of the current layer. -/
structure State (F : FTy → Type) where
  out : Vec F S4096x64 .f32
  qc16 : Vec F S2944x4096 .bf16
  cq16 : Vec F S2944x4096 .bf16
  msg : Vec F S4096x64 .bf16
  xcur : Vec F S4096x64 .f32

/-- A block row of the second product in phases 3 and 5: by the resident copy where there is one, else by the streamed rows. -/
def prodC (j : Fin 32) (cb : Vec F S128x4096 .f32) (cq16 : Vec F S2944x4096 .bf16) (msg : Vec F S4096x64 .bf16) : FVec F S128x64 .f32 :=
  if h : j.val < 23 then k0_pay13 (wide j h cq16) msg else k0_pay14 cb msg
/-- A block row of the first product in phases 2 and 4: likewise. -/
def prodQ (j : Fin 32) (qb : Vec F S128x4096 .f32) (qc16 : Vec F S2944x4096 .bf16) (x : Vec F S4096x64 .f32) : FVec F S128x64 .f32 :=
  if h : j.val < 23 then k0_pay10 x (wide j h qc16) else k0_pay11 x qb

/-- Phase 0: keep the block in bf16, first message, the result begun with the embeddings given. -/
def step0 (j : Fin 32) (x0 : Vec F S4096x64 .f32) (qb : Vec F S128x4096 .f32) (S : State F) : State F :=
  { S with
    out := putRows j S.out (rows j x0)
    qc16 := if j.val < 23 then putWide j S.qc16 (k0_pay2 qb) else S.qc16
    msg := putRows j S.msg (k0_pay3 qb x0) }
/-- Phase 1: keep the block in bf16, first layer's embeddings, added to the result. -/
def step1 (j : Fin 32) (x0 : Vec F S4096x64 .f32) (cb : Vec F S128x4096 .f32) (S : State F) : State F :=
  { S with
    out := putRows j S.out (k0_pay8 cb S.msg (rows j x0) (rows j S.out))
    cq16 := if j.val < 23 then putWide j S.cq16 (k0_pay5 cb) else S.cq16
    xcur := putRows j S.xcur (k0_pay7 cb S.msg (rows j x0)) }
/-- Phases 2 and 4: the next layer's message. -/
def step2 (j : Fin 32) (qb : Vec F S128x4096 .f32) (S : State F) : State F :=
  { S with msg := putRows j S.msg (k0_pay12 (prodQ j qb S.qc16 S.xcur)) }
/-- Phase 3: second layer's embeddings, added to the result. -/
def step3 (j : Fin 32) (cb : Vec F S128x4096 .f32) (S : State F) : State F :=
  { S with
    out := putRows j S.out (k0_pay17 (prodC j cb S.cq16 S.msg) (rows j S.xcur) (rows j S.out))
    xcur := putRows j S.xcur (k0_pay16 (prodC j cb S.cq16 S.msg) (rows j S.xcur)) }
/-- Phase 5: the third layer added, and the mean taken. -/
def step5 (j : Fin 32) (cb : Vec F S128x4096 .f32) (S : State F) : State F :=
  { S with out := putRows j S.out (k0_pay18 (prodC j cb S.cq16 S.msg) (rows j S.xcur) (rows j S.out)) }

/-- The work of one grid point: by its phase. -/
def step (i : grid0.Coords) (x0 : Vec F S4096x64 .f32) (qb cb : Vec F S128x4096 .f32) (S : State F) : State F :=
  if ph i = 0 then step0 (blk i) x0 qb S
  else if ph i = 1 then step1 (blk i) x0 cb S
  else if ph i = 3 then step3 (blk i) cb S
  else if ph i = 5 then step5 (blk i) cb S
  else step2 (blk i) qb S

end Cert.Proof

end
-- ==== Proof.Body.lean ====
/-
  The kernel's body at a grid point, run once through its loads, stores and branches: it takes the buffers from one state
  to the state `step` names.
-/
module

public import proofs.«01_k».proof.Proof.Step
public import Idealize.ShloMosaic.Lib.Pipeline.Frame
public import Idealize.ShloMosaic.Lib.Tactic

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

section Reads
variable {κ : Kind} {sp : Space} {e : EltTy}

/-- Loads of a block of rows and of a whole array, and stores of a block of rows, through a view of the whole array. -/
theorem load_rows (v : View sig κ sp S4096x64 e) (f : v.ty.Contents (Elt F)) {off : Fin 2 → ℕ} (inb : ∀ a, off a + (![128, 64] : Fin 2 → ℕ) a ≤ S4096x64.size a)
    (j : Fin 32) (h : off = ![128 * j.val, 0]) :
    v.readAt (Elt F) (Rect.unit (s := S4096x64) off ![128, 64] inb).toLoadRect f = rows j (v.read (Elt F) f) :=
  View.readAt_unit v f inb h (inb_rows j)
theorem load_wide (v : View sig κ sp S2944x4096 e) (f : v.ty.Contents (Elt F)) {off : Fin 2 → ℕ} (inb : ∀ a, off a + (![128, 4096] : Fin 2 → ℕ) a ≤ S2944x4096.size a)
    (j : Fin 32) (h : off = ![128 * j.val, 0]) (hj : j.val < 23) :
    v.readAt (Elt F) (Rect.unit (s := S2944x4096) off ![128, 4096] inb).toLoadRect f = wide j hj (v.read (Elt F) f) :=
  View.readAt_unit v f inb h (inb_wide j hj)
theorem load_array (v : View sig κ sp S4096x64 e) (f : v.ty.Contents (Elt F)) (inb : ∀ a, (![0, 0] : Fin 2 → ℕ) a + (![4096, 64] : Fin 2 → ℕ) a ≤ S4096x64.size a) :
    v.readAt (Elt F) (Rect.unit (s := S4096x64) ![0, 0] ![4096, 64] inb).toLoadRect f = v.read (Elt F) f :=
  View.readAt_full v f inb
theorem load_block (v : View sig κ sp S128x4096 e) (f : v.ty.Contents (Elt F)) (inb : ∀ a, (![0, 0] : Fin 2 → ℕ) a + (![128, 4096] : Fin 2 → ℕ) a ≤ S128x4096.size a) :
    v.readAt (Elt F) (Rect.unit (s := S128x4096) ![0, 0] ![128, 4096] inb).toLoadRect f = v.read (Elt F) f :=
  View.readAt_full v f inb
theorem store_rows (v : View sig κ sp S4096x64 e) (f : v.ty.Contents (Elt F)) {off : Fin 2 → ℕ} (inb : ∀ a, off a + S128x64.size a ≤ S4096x64.size a)
    (w : S128x64.Idx → Elt F e) (j : Fin 32) (h : off = ![128 * j.val, 0]) :
    v.read (Elt F) (v.writes (Elt F) f [⟨Rect.unit (s := S4096x64) off S128x64.size inb, w⟩]) = putRows j (v.read (Elt F) f) w :=
  View.read_writes_cons_put v f inb w [] h
theorem store_wide (v : View sig κ sp S2944x4096 e) (f : v.ty.Contents (Elt F)) {off : Fin 2 → ℕ} (inb : ∀ a, off a + S128x4096.size a ≤ S2944x4096.size a)
    (w : S128x4096.Idx → Elt F e) (j : Fin 32) (h : off = ![128 * j.val, 0]) :
    v.read (Elt F) (v.writes (Elt F) f [⟨Rect.unit (s := S2944x4096) off S128x4096.size inb, w⟩]) = putWide j (v.read (Elt F) f) w :=
  View.read_writes_cons_put v f inb w [] h

end Reads

variable (c : Dev nD) (i : grid0.Coords)
  (arg2 : Memref sig .tc .vmem S4096x64 .f32) (h2 : arg2.IsWhole)
  (arg3 : Memref sig .tc .vmem S128x4096 .f32) (h3 : arg3.IsWhole)
  (arg4 : Memref sig .tc .vmem S128x4096 .f32) (h4 : arg4.IsWhole)
  (arg5 : Memref sig .tc .vmem S4096x64 .f32) (h5 : arg5.IsWhole)
  (arg6 : Memref sig .tc .vmem S2944x4096 .bf16) (h6 : arg6.IsWhole)
  (arg7 : Memref sig .tc .vmem S2944x4096 .bf16) (h7 : arg7.IsWhole)
  (arg8 : Memref sig .tc .vmem S4096x64 .bf16) (h8 : arg8.IsWhole)
  (arg9 : Memref sig .tc .vmem S4096x64 .f32) (h9 : arg9.IsWhole)

/-- The three operands and the five buffers of a state, owned. -/
def held (x0 : Vec F S4096x64 .f32) (qb cb : Vec F S128x4096 .f32) (S : State F) : sProp 𝕄 :=
  iprop(owns (c : Thread nD τ) arg2 fullShare x0 ∗ owns (c : Thread nD τ) arg3 fullShare qb
    ∗ owns (c : Thread nD τ) arg4 fullShare cb ∗ owns (c : Thread nD τ) arg5 fullShare S.out
    ∗ owns (c : Thread nD τ) arg6 fullShare S.qc16 ∗ owns (c : Thread nD τ) arg7 fullShare S.cq16
    ∗ owns (c : Thread nD τ) arg8 fullShare S.msg ∗ owns (c : Thread nD τ) arg9 fullShare S.xcur)

theorem body_run (K : PUnit → sProp 𝕄) (x0 : Vec F S4096x64 .f32) (qb cb : Vec F S128x4096 .f32) (S : State F) :
    iprop(held c arg2 arg3 arg4 arg5 arg6 arg7 arg8 arg9 x0 qb cb S
        ∗ (held c arg2 arg3 arg4 arg5 arg6 arg7 arg8 arg9 x0 qb cb (step i x0 qb cb S) -∗ K ⟨⟩))
      ⊢ wp frame (wpE (defs₀ (F := F)) Variants.none c none) Set.univ
          (cc0__phase_kernel i arg2 h2 arg3 h3 arg4 h4 arg5 h5 arg6 h6 arg7 h7 arg8 h8 arg9 h9) K := by
  simp only [cc0__phase_kernel_eq_skeleton]; unfold cc0__phase_kernel_skel
  unfold held owns
  have e1 := cond1_iff i; have e3 := cond3_iff i; have e5 := cond5_iff i; have e7 := cond7_iff i
  have e9 := cond9_iff i; have e10 := cond10_iff i
  have e2 := cond2_iff i; have e4 := cond4_iff i; have e6 := cond6_iff i; have e8 := cond8_iff i
  have hp : ph i = 0 ∨ ph i = 1 ∨ ph i = 2 ∨ ph i = 3 ∨ ph i = 4 ∨ ph i = 5 := by
    generalize ph i = p; revert p; decide
  have L2 := fun (v : View sig .tc .vmem S4096x64 .f32) (f : v.ty.Contents (Elt F)) inb => load_rows v f inb (blk i) (off2_eq i)
  have L4 := fun (v : View sig .tc .vmem S4096x64 .f32) (f : v.ty.Contents (Elt F)) inb => load_rows v f inb (blk i) (off4_eq i)
  have L8 := fun (v : View sig .tc .vmem S4096x64 .f32) (f : v.ty.Contents (Elt F)) inb => load_rows v f inb (blk i) (off8_eq i)
  have L9 := fun (v : View sig .tc .vmem S4096x64 .f32) (f : v.ty.Contents (Elt F)) inb => load_rows v f inb (blk i) (off9_eq i)
  have L10 := fun (v : View sig .tc .vmem S4096x64 .f32) (f : v.ty.Contents (Elt F)) inb => load_rows v f inb (blk i) (off10_eq i)
  have W5 := fun (v : View sig .tc .vmem S2944x4096 .bf16) (f : v.ty.Contents (Elt F)) inb => load_wide v f inb (blk i) (off5_eq i)
  have W7 := fun (v : View sig .tc .vmem S2944x4096 .bf16) (f : v.ty.Contents (Elt F)) inb => load_wide v f inb (blk i) (off7_eq i)
  iintro ⟨⟨⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩⟩, Hk⟩
  rcases hp with hp | hp | hp | hp | hp | hp <;> by_cases hj : (blk i).val < 23 <;>
    simp only [hp, hj, Fin.reduceEq, iff_true, iff_false, or_self, or_true, true_or, or_false, false_or] at e1 e2 e3 e4 e5 e6 e7 e8 e9 e10 <;>
    sl_exec <;> sl_step <;> iapply Hk
  -- the operands are as they were; each buffer is as it was or has the block stored over it
  all_goals
    isplitl [H2]; · iexists _; isplitr; swap; · iexact H2
                    ipureintro; exact r2
    isplitl [H3]; · iexists _; isplitr; swap; · iexact H3
                    ipureintro; exact r3
    isplitl [H4]; · iexists _; isplitr; swap; · iexact H4
                    ipureintro; exact r4
    isplitl [H5]; · iexists _; isplitr; swap; · iexact H5
                    ipureintro
                    try refine (store_rows _ _ _ _ (blk i) (off2_eq i)).trans ?_
                    simp only [hp, hj, step, step0, step1, step2, step3, step5, prodQ, prodC, Fin.reduceEq, ↓reduceIte, ↓reduceDIte,
        L2, L4, L8, L9, L10, W5, W7, load_array, load_block, r2, r3, r4, r5, r6, r7, r8, r9]
    isplitl [H6]; · iexists _; isplitr; swap; · iexact H6
                    ipureintro
                    try refine (store_wide _ _ _ _ (blk i) (off2_eq i)).trans ?_
                    simp only [hp, hj, step, step0, step1, step2, step3, step5, prodQ, prodC, Fin.reduceEq, ↓reduceIte, ↓reduceDIte,
        L2, L4, L8, L9, L10, W5, W7, load_array, load_block, r2, r3, r4, r5, r6, r7, r8, r9]
    isplitl [H7]; · iexists _; isplitr; swap; · iexact H7
                    ipureintro
                    try refine (store_wide _ _ _ _ (blk i) (off2_eq i)).trans ?_
                    simp only [hp, hj, step, step0, step1, step2, step3, step5, prodQ, prodC, Fin.reduceEq, ↓reduceIte, ↓reduceDIte,
        L2, L4, L8, L9, L10, W5, W7, load_array, load_block, r2, r3, r4, r5, r6, r7, r8, r9]
    isplitl [H8]; · iexists _; isplitr; swap; · iexact H8
                    ipureintro
                    try refine (store_rows _ _ _ _ (blk i) (off2_eq i)).trans ?_
                    simp only [hp, hj, step, step0, step1, step2, step3, step5, prodQ, prodC, Fin.reduceEq, ↓reduceIte, ↓reduceDIte,
        L2, L4, L8, L9, L10, W5, W7, load_array, load_block, r2, r3, r4, r5, r6, r7, r8, r9]
    iexists _; isplitr; swap; · iexact H9
    ipureintro
    try refine (store_rows _ _ _ _ (blk i) (off2_eq i)).trans ?_
    simp only [hp, hj, step, step0, step1, step2, step3, step5, prodQ, prodC, Fin.reduceEq, ↓reduceIte, ↓reduceDIte,
        L2, L4, L8, L9, L10, W5, W7, load_array, load_block, r2, r3, r4, r5, r6, r7, r8, r9]

end Cert.Proof

end
-- ==== Proof.Layers.lean ====
/-
  What the kernel computes, block row by block row, as functions of its three operands, and the invariant its buffers
  keep: after `n` grid points the blocks already visited in the current phase hold the current layer's rows, the others
  the rows before. The invariant is kept by `step`, and after all 192 points it says what every row of the result is.
-/
module

public import proofs.«01_k».proof.Proof.Step
public import Idealize.ShloMosaic.Lib.Pointwise.Index

@[expose] public section

noncomputable section

namespace Cert.Proof

open Cert.KernelIdeal Cert.KernelIdeal.Gen
open Idealize.ShloMosaic

/-! ## An array from its 32 blocks of rows -/

section Assemble
variable {α : Type}

/-- The array whose block of rows `j` is `f j`. -/
def assemble (f : Fin 32 → S128x64.Idx → α) : S4096x64.Idx → α := fun y =>
  f ⟨(y 0).val / 128, by have : (y 0).val < 4096 := (y 0).isLt; omega⟩
    (ix2 (n0 := 128) (n1 := 64) ⟨(y 0).val % 128, by omega⟩ (y 1))

/-- An array is the one assembled of its blocks. -/
theorem eq_assemble {f : Fin 32 → S128x64.Idx → α} {x : S4096x64.Idx → α} (h : ∀ j, rows j x = f j) : x = assemble f := by
  funext y
  have hy : (y 0).val < 4096 := (y 0).isLt
  refine Eq.trans ?_ (congrFun (h ⟨(y 0).val / 128, by omega⟩) (ix2 (n0 := 128) (n1 := 64) ⟨(y 0).val % 128, by omega⟩ (y 1)))
  refine congrArg x (funext fun a => Fin.ext ?_)
  fin_cases a
  · show (y 0).val = 128 * ((y 0).val / 128) + 1 * ((y 0).val % 128)
    omega
  · show (y 1).val = 0 + 1 * (y 1).val
    omega

end Assemble

/-! ## The layers, by blocks of rows -/

variable {F : FTy → Type} [FloatOps F]

section Layers
variable (X : Vec F S4096x64 .f32) (Q C : Vec F S4096x4096 .f32)

/-- Layer 1: the message. -/
def msg1 (j : Fin 32) : Vec F S128x64 .bf16 := k0_pay3 (block j Q) X
/-- Layer 1: the embeddings. -/
def emb1 (j : Fin 32) : Vec F S128x64 .f32 := k0_pay7 (block j C) (assemble (msg1 X Q)) (rows j X)
/-- The embeddings given and layer 1's, added. -/
def sum1 (j : Fin 32) : Vec F S128x64 .f32 := k0_pay8 (block j C) (assemble (msg1 X Q)) (rows j X) (rows j X)
/-- The message of a later layer: the block row of the first 23 blocks was kept in bf16, the others are converted again. -/
def msgOf (x : Vec F S4096x64 .f32) (j : Fin 32) : Vec F S128x64 .bf16 :=
  k0_pay12 (if j.val < 23 then k0_pay10 x (k0_pay2 (block j Q)) else k0_pay11 x (block j Q))
/-- The second product of a later layer: likewise. -/
def resOf (M : Vec F S4096x64 .bf16) (j : Fin 32) : FVec F S128x64 .f32 :=
  if j.val < 23 then k0_pay13 (k0_pay5 (block j C)) M else k0_pay14 (block j C) M
/-- Layer 2: the message, the embeddings, and the sum so far. -/
def msg2 : Fin 32 → Vec F S128x64 .bf16 := msgOf Q (assemble (emb1 X Q C))
def emb2 (j : Fin 32) : Vec F S128x64 .f32 := k0_pay16 (resOf C (assemble (msg2 X Q C)) j) (emb1 X Q C j)
def sum2 (j : Fin 32) : Vec F S128x64 .f32 := k0_pay17 (resOf C (assemble (msg2 X Q C)) j) (emb1 X Q C j) (sum1 X Q C j)
/-- Layer 3: the message, and the mean of the four. -/
def msg3 : Fin 32 → Vec F S128x64 .bf16 := msgOf Q (assemble (emb2 X Q C))
def mean3 (j : Fin 32) : Vec F S128x64 .f32 := k0_pay18 (resOf C (assemble (msg3 X Q C)) j) (emb2 X Q C j) (sum2 X Q C j)

/-! ## The invariant -/

/-- The result after `n` points. -/
def OutInv (n : ℕ) (o : Vec F S4096x64 .f32) : Prop :=
  ∀ k : Fin 32,
    (k.val < n → n ≤ 32 + k.val → rows k o = rows k X) ∧ (32 + k.val < n → n ≤ 96 + k.val → rows k o = sum1 X Q C k)
      ∧ (96 + k.val < n → n ≤ 160 + k.val → rows k o = sum2 X Q C k) ∧ (160 + k.val < n → rows k o = mean3 X Q C k)

/-- The two resident bf16 copies, the message and the embeddings after `n` points. -/
def QInv (n : ℕ) (s : Vec F S2944x4096 .bf16) : Prop := ∀ (k : Fin 32) (h : k.val < 23), k.val < n → wide k h s = k0_pay2 (block k Q)
def CInv (n : ℕ) (s : Vec F S2944x4096 .bf16) : Prop := ∀ (k : Fin 32) (h : k.val < 23), 32 + k.val < n → wide k h s = k0_pay5 (block k C)
def MsgInv (n : ℕ) (s : Vec F S4096x64 .bf16) : Prop :=
  ∀ k : Fin 32, (k.val < n → n ≤ 64 + k.val → rows k s = msg1 X Q k)
    ∧ (64 + k.val < n → n ≤ 128 + k.val → rows k s = msg2 X Q C k) ∧ (128 + k.val < n → rows k s = msg3 X Q C k)
def EmbInv (n : ℕ) (s : Vec F S4096x64 .f32) : Prop :=
  ∀ k : Fin 32, (32 + k.val < n → n ≤ 96 + k.val → rows k s = emb1 X Q C k) ∧ (96 + k.val < n → rows k s = emb2 X Q C k)

/-- The scratch buffers after `n` points. -/
structure ScrInv (n : ℕ) (S : State F) : Prop where
  qc16 : QInv Q n S.qc16
  cq16 : CInv C n S.cq16
  msg : MsgInv X Q C n S.msg
  xcur : EmbInv X Q C n S.xcur

/-- Nothing is asked before the first point. -/
theorem outInv_zero (o : Vec F S4096x64 .f32) : OutInv X Q C 0 o := fun k =>
  ⟨fun h => absurd h (Nat.not_lt_zero _), fun h => absurd h (Nat.not_lt_zero _), fun h => absurd h (Nat.not_lt_zero _), fun h => absurd h (Nat.not_lt_zero _)⟩
theorem scrInv_zero (S : State F) : ScrInv X Q C 0 S where
  qc16 _ _ h := absurd h (Nat.not_lt_zero _)
  cq16 _ _ h := absurd h (Nat.not_lt_zero _)
  msg _ := ⟨fun h => absurd h (Nat.not_lt_zero _), fun h => absurd h (Nat.not_lt_zero _), fun h => absurd h (Nat.not_lt_zero _)⟩
  xcur _ := ⟨fun h => absurd h (Nat.not_lt_zero _), fun h => absurd h (Nat.not_lt_zero _)⟩

/-- After the last point the result is the mean, in every block. -/
theorem outInv_end {o : Vec F S4096x64 .f32} (h : OutInv X Q C 192 o) : o = assemble (mean3 X Q C) :=
  eq_assemble fun j => (h j).2.2.2 (by have := j.isLt; omega)

end Layers

/-! ## One step keeps it -/

section Keep
variable {X : Vec F S4096x64 .f32} {Q C : Vec F S4096x4096 .f32}

/-- The product of a later layer at a block, once the bf16 copies are in place. -/
theorem prodQ_eq {S : State F} {n : ℕ} (h : ScrInv X Q C n S) (j : Fin 32) (hn : 32 ≤ n) (qb : Vec F S128x4096 .f32) (hq : 23 ≤ j.val → qb = block j Q)
    (x : Vec F S4096x64 .f32) : k0_pay12 (prodQ j qb S.qc16 x) = msgOf Q x j := by
  unfold prodQ msgOf
  by_cases hj : j.val < 23
  · rw [dif_pos hj, if_pos hj, h.qc16 j hj (by omega)]
  · rw [dif_neg hj, if_neg hj, hq (by omega)]
theorem prodC_eq {S : State F} {n : ℕ} (h : ScrInv X Q C n S) (j : Fin 32) (hn : 64 ≤ n) (cb : Vec F S128x4096 .f32) (hc : 23 ≤ j.val → cb = block j C)
    (M : Vec F S4096x64 .bf16) : prodC j cb S.cq16 M = resOf C M j := by
  unfold prodC resOf
  by_cases hj : j.val < 23
  · rw [dif_pos hj, if_pos hj, h.cq16 j hj (by omega)]
  · rw [dif_neg hj, if_neg hj, hc (by omega)]

/-- A block after a store of one block: the payload there, as it was elsewhere. -/
theorem rows_put {α : Type} {j k : Fin 32} {x : S4096x64.Idx → α} {w v : S128x64.Idx → α} (hs : k.val = j.val → w = v)
    (hne : k.val ≠ j.val → rows k x = v) : rows k (putRows j x w) = v := by
  by_cases e : k = j
  · subst e; rw [rows_putRows_same]; exact hs rfl
  · rw [rows_putRows_ne e]; exact hne fun h => e (Fin.ext h)
theorem wide_put {α : Type} {j k : Fin 32} (hk : k.val < 23) {x : S2944x4096.Idx → α} {w v : S128x4096.Idx → α} (hs : k.val = j.val → w = v)
    (hne : k.val ≠ j.val → wide k hk x = v) : wide k hk (if j.val < 23 then putWide j x w else x) = v := by
  by_cases e : k = j
  · subst e; rw [if_pos hk, wide_putWide_same]; exact hs rfl
  · have hv := hne fun h => e (Fin.ext h)
    split
    · rw [wide_putWide_ne hk e]; exact hv
    · exact hv

/-- The result: a store of block `j` that puts there what the invariant asks of it next. -/
theorem outInv_put {n : ℕ} {j : Fin 32} {o : Vec F S4096x64 .f32} {w : Vec F S128x64 .f32} (hO : OutInv X Q C n o)
    (hw : (n = j.val → w = rows j X) ∧ (n = 32 + j.val → w = sum1 X Q C j) ∧ (n = 96 + j.val → w = sum2 X Q C j) ∧ (n = 160 + j.val → w = mean3 X Q C j))
    (hn : n = j.val ∨ n = 32 + j.val ∨ n = 96 + j.val ∨ n = 160 + j.val) : OutInv X Q C (n + 1) (putRows j o w) := by
  obtain ⟨w0, w1, w2, w3⟩ := hw
  have := j.isLt
  intro k
  have := k.isLt
  obtain ⟨h0, h1, h2, h3⟩ := hO k
  refine ⟨fun a b => rows_put (fun e => ?_) fun e => h0 (by omega) (by omega), fun a b => rows_put (fun e => ?_) fun e => h1 (by omega) (by omega),
    fun a b => rows_put (fun e => ?_) fun e => h2 (by omega) (by omega), fun a => rows_put (fun e => ?_) fun e => h3 (by omega)⟩
  all_goals obtain rfl := Fin.ext e
  · exact w0 (by omega)
  · exact w1 (by omega)
  · exact w2 (by omega)
  · exact w3 (by omega)

/-- The result where no block of it is due. -/
theorem outInv_keep {n : ℕ} {o : Vec F S4096x64 .f32} (hO : OutInv X Q C n o) (hn : 64 ≤ n ∧ n < 96 ∨ 128 ≤ n ∧ n < 160) : OutInv X Q C (n + 1) o := by
  intro k
  have := k.isLt
  obtain ⟨h0, h1, h2, h3⟩ := hO k
  exact ⟨fun a b => h0 (by omega) (by omega), fun a b => h1 (by omega) (by omega), fun a b => h2 (by omega) (by omega), fun a => h3 (by omega)⟩

/-- The bf16 copies, likewise: stored in the first two phases, then kept. -/
theorem qInv_put {n : ℕ} {j : Fin 32} {s : Vec F S2944x4096 .bf16} {w : Vec F S128x4096 .bf16} (h : QInv Q n s) (hn : n = j.val) (hw : w = k0_pay2 (block j Q)) :
    QInv Q (n + 1) (if j.val < 23 then putWide j s w else s) := fun k hk a =>
  wide_put hk (fun e => by obtain rfl := Fin.ext e; exact hw) fun e => h k hk (by omega)
theorem qInv_keep {n : ℕ} {s : Vec F S2944x4096 .bf16} (h : QInv Q n s) (hn : 32 ≤ n) : QInv Q (n + 1) s := fun k hk _ => h k hk (by omega)
theorem cInv_put {n : ℕ} {j : Fin 32} {s : Vec F S2944x4096 .bf16} {w : Vec F S128x4096 .bf16} (h : CInv C n s) (hn : n = 32 + j.val) (hw : w = k0_pay5 (block j C)) :
    CInv C (n + 1) (if j.val < 23 then putWide j s w else s) := fun k hk a =>
  wide_put hk (fun e => by obtain rfl := Fin.ext e; exact hw) fun e => h k hk (by omega)
theorem cInv_keep {n : ℕ} {s : Vec F S2944x4096 .bf16} (h : CInv C n s) (hn : n < 32 ∨ 64 ≤ n) : CInv C (n + 1) s := fun k hk _ => h k hk (by omega)

/-- The message, likewise. -/
theorem msgInv_put {n : ℕ} {j : Fin 32} {s : Vec F S4096x64 .bf16} {w : Vec F S128x64 .bf16} (h : MsgInv X Q C n s)
    (hw : (n = j.val → w = msg1 X Q j) ∧ (n = 64 + j.val → w = msg2 X Q C j) ∧ (n = 128 + j.val → w = msg3 X Q C j))
    (hn : n = j.val ∨ n = 64 + j.val ∨ n = 128 + j.val) : MsgInv X Q C (n + 1) (putRows j s w) := by
  obtain ⟨w0, w1, w2⟩ := hw
  have := j.isLt
  intro k
  have := k.isLt
  obtain ⟨h0, h1, h2⟩ := h k
  refine ⟨fun a b => rows_put (fun e => ?_) fun e => h0 (by omega) (by omega), fun a b => rows_put (fun e => ?_) fun e => h1 (by omega) (by omega),
    fun a => rows_put (fun e => ?_) fun e => h2 (by omega)⟩
  all_goals obtain rfl := Fin.ext e
  · exact w0 (by omega)
  · exact w1 (by omega)
  · exact w2 (by omega)
theorem msgInv_keep {n : ℕ} {s : Vec F S4096x64 .bf16} (h : MsgInv X Q C n s) (hn : 32 ≤ n ∧ n < 64 ∨ 96 ≤ n ∧ n < 128 ∨ 160 ≤ n) : MsgInv X Q C (n + 1) s := by
  intro k
  have := k.isLt
  obtain ⟨h0, h1, h2⟩ := h k
  exact ⟨fun a b => h0 (by omega) (by omega), fun a b => h1 (by omega) (by omega), fun a => h2 (by omega)⟩

/-- The embeddings, likewise. -/
theorem embInv_put {n : ℕ} {j : Fin 32} {s w} (h : EmbInv X Q C n s)
    (hw : (n = 32 + j.val → w = emb1 X Q C j) ∧ (n = 96 + j.val → w = emb2 X Q C j))
    (hn : n = 32 + j.val ∨ n = 96 + j.val) : EmbInv X Q C (n + 1) (putRows j s w) := by
  obtain ⟨w0, w1⟩ := hw
  have := j.isLt
  intro k
  have := k.isLt
  obtain ⟨h0, h1⟩ := h k
  refine ⟨fun a b => rows_put (fun e => ?_) fun e => h0 (by omega) (by omega), fun a => rows_put (fun e => ?_) fun e => h1 (by omega)⟩
  all_goals obtain rfl := Fin.ext e
  · exact w0 (by omega)
  · exact w1 (by omega)
theorem embInv_keep {n : ℕ} {s : Vec F S4096x64 .f32} (h : EmbInv X Q C n s) (hn : n < 32 ∨ 64 ≤ n ∧ n < 96 ∨ 128 ≤ n) : EmbInv X Q C (n + 1) s := by
  intro k
  have := k.isLt
  obtain ⟨h0, h1⟩ := h k
  exact ⟨fun a b => h0 (by omega) (by omega), fun a => h1 (by omega)⟩

/-- Every grid point keeps the invariant, given that the operands it reads hold the blocks of its own rows. -/
theorem step_inv {i : grid0.Coords} {n : ℕ} {S : State F} {qb cb : Vec F S128x4096 .f32} (hn : n = 32 * (ph i).val + (blk i).val)
    (hq : ph i = 0 ∨ ((ph i = 2 ∨ ph i = 4) ∧ 23 ≤ (blk i).val) → qb = block (blk i) Q)
    (hc : ph i = 1 ∨ ((ph i = 3 ∨ ph i = 5) ∧ 23 ≤ (blk i).val) → cb = block (blk i) C)
    (hO : OutInv X Q C n S.out) (hS : ScrInv X Q C n S) :
    OutInv X Q C (n + 1) (step i X qb cb S).out ∧ ScrInv X Q C (n + 1) (step i X qb cb S) := by
  have hj := (blk i).isLt
  have hp : ph i = 0 ∨ ph i = 1 ∨ ph i = 2 ∨ ph i = 3 ∨ ph i = 4 ∨ ph i = 5 := by
    generalize ph i = p; revert p; decide
  unfold step
  generalize blk i = j at *
  have eM1 (h : 32 ≤ n ∧ n ≤ 64) : S.msg = assemble (msg1 X Q) := eq_assemble fun k => (hS.msg k).1 (by omega) (by omega)
  have eM2 (h : 96 ≤ n ∧ n ≤ 128) : S.msg = assemble (msg2 X Q C) := eq_assemble fun k => (hS.msg k).2.1 (by omega) (by omega)
  have eM3 (h : 160 ≤ n) : S.msg = assemble (msg3 X Q C) := eq_assemble fun k => (hS.msg k).2.2 (by omega)
  have eX1 (h : 64 ≤ n ∧ n ≤ 96) : S.xcur = assemble (emb1 X Q C) := eq_assemble fun k => (hS.xcur k).1 (by omega) (by omega)
  have eX2 (h : 128 ≤ n) : S.xcur = assemble (emb2 X Q C) := eq_assemble fun k => (hS.xcur k).2 (by omega)
  rcases hp with hp | hp | hp | hp | hp | hp <;> rw [hp] at hn hq hc ⊢ <;>
    simp only [Fin.reduceEq, ↓reduceIte, true_or, false_or, or_true, or_false, true_and, forall_const] at hq hc ⊢
  · replace hn : n = j.val := hn.trans (Nat.zero_add _)
    exact ⟨outInv_put hO ⟨fun _ => rfl, fun e => absurd e (by omega), fun e => absurd e (by omega), fun e => absurd e (by omega)⟩ (by omega),
      qInv_put hS.qc16 hn (by rw [hq]), cInv_keep hS.cq16 (by omega),
      msgInv_put hS.msg ⟨fun _ => by rw [hq]; rfl, fun e => absurd e (by omega), fun e => absurd e (by omega)⟩ (by omega),
      embInv_keep hS.xcur (by omega)⟩
  · replace hn : n = 32 + j.val := hn
    refine ⟨outInv_put hO ⟨fun e => absurd e (by omega), fun _ => ?_, fun e => absurd e (by omega), fun e => absurd e (by omega)⟩ (by omega),
      qInv_keep hS.qc16 (by omega), cInv_put hS.cq16 hn (by rw [hc]),
      msgInv_keep hS.msg (by omega),
      embInv_put hS.xcur ⟨fun _ => ?_, fun e => absurd e (by omega)⟩ (by omega)⟩
    · rw [hc, eM1 (by omega), (hO j).1 (by omega) (by omega)]; rfl
    · rw [hc, eM1 (by omega)]; rfl
  · replace hn : n = 64 + j.val := hn
    exact ⟨outInv_keep hO (by omega), qInv_keep hS.qc16 (by omega), cInv_keep hS.cq16 (by omega),
      msgInv_put hS.msg ⟨fun e => absurd e (by omega), fun _ => by rw [prodQ_eq hS j (by omega) qb hq, eX1 (by omega)]; rfl, fun e => absurd e (by omega)⟩ (by omega),
      embInv_keep hS.xcur (by omega)⟩
  · replace hn : n = 96 + j.val := hn
    refine ⟨outInv_put hO ⟨fun e => absurd e (by omega), fun e => absurd e (by omega), fun _ => ?_, fun e => absurd e (by omega)⟩ (by omega),
      qInv_keep hS.qc16 (by omega), cInv_keep hS.cq16 (by omega), msgInv_keep hS.msg (by omega),
      embInv_put hS.xcur ⟨fun e => absurd e (by omega), fun _ => ?_⟩ (by omega)⟩
    · rw [prodC_eq hS j (by omega) cb hc, eM2 (by omega), (hS.xcur j).1 (by omega) (by omega), (hO j).2.1 (by omega) (by omega)]; rfl
    · rw [prodC_eq hS j (by omega) cb hc, eM2 (by omega), (hS.xcur j).1 (by omega) (by omega)]; rfl
  · replace hn : n = 128 + j.val := hn
    exact ⟨outInv_keep hO (by omega), qInv_keep hS.qc16 (by omega), cInv_keep hS.cq16 (by omega),
      msgInv_put hS.msg ⟨fun e => absurd e (by omega), fun e => absurd e (by omega), fun _ => by rw [prodQ_eq hS j (by omega) qb hq, eX2 (by omega)]; rfl⟩ (by omega),
      embInv_keep hS.xcur (by omega)⟩
  · replace hn : n = 160 + j.val := hn
    refine ⟨outInv_put hO ⟨fun e => absurd e (by omega), fun e => absurd e (by omega), fun e => absurd e (by omega), fun _ => ?_⟩ (by omega),
      qInv_keep hS.qc16 (by omega), cInv_keep hS.cq16 (by omega), msgInv_keep hS.msg (by omega), embInv_keep hS.xcur (by omega)⟩
    rw [prodC_eq hS j (by omega) cb hc, eM3 (by omega), (hS.xcur j).2 (by omega), (hO j).2.2.1 (by omega) (by omega)]; rfl

end Keep

end Cert.Proof

end
-- ==== Proof.Data.lean ====
/-
  What the pipeline hands the body at each grid point, and what the body may leave: the proof data of the one kernel
  call, stated as relations. The three operands are left as found, and each holds, whenever the point reads it, the block
  of its array that the point works on; the result buffer satisfies `OutInv`, and the four scratch buffers `ScrInv`.
-/
module

public import proofs.«01_k».proof.Proof.Body
public import proofs.«01_k».proof.Proof.Layers
public import Idealize.ShloMosaic.Lib.Pipeline.FrameBody
public import Idealize.ShloMosaic.Lib.Pipeline.ValueKit.Geometry

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## The grid and the blocks -/

/-- Point `t` is phase `t / 32` at block `t % 32`. -/
theorem point_eq : ∀ t : Fin grid0.N, t.val = 32 * (ph (grid0.coords t)).val + (blk (grid0.coords t)).val := by decide +kernel

/-- The block index of the second operand at the points that read it. -/
theorem index1 : ∀ t : Fin grid0.N, (ph (grid0.coords t) = 0 ∨ ((ph (grid0.coords t) = 2 ∨ ph (grid0.coords t) = 4) ∧ 23 ≤ (blk (grid0.coords t)).val)) →
    win0_1.index t = ![(blk (grid0.coords t)).val, 0] := by decide +kernel
/-- The block index of the third operand at the points that read it. -/
theorem index2 : ∀ t : Fin grid0.N, (ph (grid0.coords t) = 1 ∨ ((ph (grid0.coords t) = 3 ∨ ph (grid0.coords t) = 5) ∧ 23 ≤ (blk (grid0.coords t)).val)) →
    win0_2.index t = ![(blk (grid0.coords t)).val, 0] := by decide +kernel
/-- The first operand is one block. -/
theorem index0 : ∀ t : Fin grid0.N, win0_0.index t = ![0, 0] := by decide +kernel

variable (m : (ℓ : Loc nD τ sig) → Buf (Elt F) ℓ)

/-- The three operands as launched. -/
abbrev X0 (c : Dev nD) : Vec F S4096x64 .f32 := V m c main_arg0
abbrev Q0 (c : Dev nD) : Vec F S4096x4096 .f32 := V m c main_arg1
abbrev C0 (c : Dev nD) : Vec F S4096x4096 .f32 := V m c main_arg2

/-- The first operand's block is the whole operand. -/
theorem iblk0_eq (c : Dev nD) (t : Fin cfg0.N) : iblk m c 0 t = X0 m c := by
  funext y
  have e := index0 t
  blk_simp [iblk]
  refine congrArg (V m c main_arg0) ?_
  blk_ext [e]
/-- The second operand's block, at the points that read it. -/
theorem iblk1_eq (c : Dev nD) (t : Fin cfg0.N)
    (h : ph (grid0.coords t) = 0 ∨ ((ph (grid0.coords t) = 2 ∨ ph (grid0.coords t) = 4) ∧ 23 ≤ (blk (grid0.coords t)).val)) :
    iblk m c 1 t = block (blk (grid0.coords t)) (Q0 m c) := by
  funext y
  have e := index1 t h
  blk_simp [iblk]
  refine congrArg (V m c main_arg1) (funext fun a => Fin.ext ?_)
  unfold Rect.unit
  rw [Rect.emb_apply]
  fin_cases a
  · blk_simp [e]
    show _ = 128 * _ + 1 * (y 0).val
    simp; omega
  · blk_simp [e]
    show _ = 0 + 1 * (y 1).val
    simp
/-- The third operand's block, at the points that read it. -/
theorem iblk2_eq (c : Dev nD) (t : Fin cfg0.N)
    (h : ph (grid0.coords t) = 1 ∨ ((ph (grid0.coords t) = 3 ∨ ph (grid0.coords t) = 5) ∧ 23 ≤ (blk (grid0.coords t)).val)) :
    iblk m c 2 t = block (blk (grid0.coords t)) (C0 m c) := by
  funext y
  have e := index2 t h
  blk_simp [iblk]
  refine congrArg (V m c main_arg2) (funext fun a => Fin.ext ?_)
  unfold Rect.unit
  rw [Rect.emb_apply]
  fin_cases a
  · blk_simp [e]
    show _ = 128 * _ + 1 * (y 0).val
    simp; omega
  · blk_simp [e]
    show _ = 0 + 1 * (y 1).val
    simp

/-! ## The proof data -/

/-- The four scratch buffers at a state's contents. -/
def scratch (c : Dev nD) (S : State F) : sProp 𝕄 :=
  iprop(owns (c : Thread nD τ) (Memref.whole cc0_scratch0) fullShare S.qc16 ∗ owns (c : Thread nD τ) (Memref.whole cc0_scratch1) fullShare S.cq16
    ∗ owns (c : Thread nD τ) (Memref.whole cc0_scratch2) fullShare S.msg ∗ owns (c : Thread nD τ) (Memref.whole cc0_scratch3) fullShare S.xcur)

/-- Before point `n`: the scratch buffers at contents that the first `n` points leave, and the generator's register. -/
def Inv (c : Dev nD) (n : ℕ) : sProp 𝕄 :=
  iprop((∃ S : State F, ⌜ScrInv (X0 m c) (Q0 m c) (C0 m c) n S⌝ ∗ scratch c S) ∗ ∃ r, prngReg c r)

/-- What the body may leave in a window's buffer: an operand as found, the result satisfying `OutInv` one point on. -/
def After (c : Dev nD) : (w : Fin cfg0.W) → Fin cfg0.N → (Y X : (cfg0.win w).block.Idx → Elt F (cfg0.win w).elt) → Prop :=
  fun | 0 => fun _ Y X => X = Y
      | 1 => fun _ Y X => X = Y
      | 2 => fun _ Y X => X = Y
      | 3 => fun t _ X => OutInv (X0 m c) (Q0 m c) (C0 m c) (t.val + 1) X
      | ⟨_ + 4, h⟩ => absurd h (Nat.not_lt.2 (Nat.le_add_left _ _))

/-- The proof data on core `c`. -/
def data (c : Dev nD) : RDat τ (Elt F) Unit ℕ (UR sig nD τ) ℕ cfg0 c where
  A w := V m c (Pipeline.arrRef spec0 w)
  after := After m c
  Φ t := Inv m c t.val
  q _ := fullShare
  owed _ := 0

variable {m} {c : Dev nD} {t : Fin cfg0.N}

/-- The first operand's buffer holds the operand. -/
theorem found0 {Y} (h : (data m c).Finds 0 t Y) : Y = X0 m c := by
  obtain ⟨d, e⟩ := (data m c).finds_in_eq_fetched 0 rfl (fun _ _ _ => rfl) (fun _ _ _ h => h) t Y h
  exact e.trans ((show (data m c).fetched 0 t d = iblk m c 0 t by unfold RDat.fetched RDat.blockOf iblk; rfl).trans (iblk0_eq m c t))
/-- The second operand's buffer holds the point's block. -/
theorem found1 {Y} (h : (data m c).Finds 1 t Y) : Y = iblk m c 1 t := by
  obtain ⟨d, e⟩ := (data m c).finds_in_eq_fetched 1 rfl (fun _ _ _ => rfl) (fun _ _ _ h => h) t Y h
  exact e.trans (by unfold RDat.fetched RDat.blockOf iblk; rfl)
/-- The third operand's buffer holds the point's block. -/
theorem found2 {Y} (h : (data m c).Finds 2 t Y) : Y = iblk m c 2 t := by
  obtain ⟨d, e⟩ := (data m c).finds_in_eq_fetched 2 rfl (fun _ _ _ => rfl) (fun _ _ _ h => h) t Y h
  exact e.trans (by unfold RDat.fetched RDat.blockOf iblk; rfl)
/-- The result's buffer holds what the points before have left: it is written back after the last point only. -/
theorem found3 {Y} (h : (data m c).Finds 3 t Y) : OutInv (X0 m c) (Q0 m c) (C0 m c) t.val Y := by
  have hf : (cfg0.win 3).fetch t = false := Window.fetch_out _ rfl t
  by_cases ht : t.val = 0
  · rw [ht]; exact outInv_zero _ _ _ _
  · rcases ((data m c).finds_of_pos hf ht Y).mp h with hl | ⟨Y', -, hA⟩
    · have := (flush0_3 _).mp hl
      have hN : t.val < 192 := t.isLt
      simp only at this
      omega
    · have hA' : OutInv (X0 m c) (Q0 m c) (C0 m c) (t.val - 1 + 1) Y := hA
      rwa [Nat.sub_add_cancel (Nat.pos_of_ne_zero ht)] at hA'

end Cert.Proof

end
-- ==== Proof.Run.lean ====
/-
  The run of the kernel, over any values: every execution ends with the operands unchanged and the result array holding
  the mean of the four layers' rows, block by block.
-/
module

public import proofs.«01_k».proof.Proof.Data
public import Idealize.ShloMosaic.Lib.Pipeline.ArrRel

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- What the body is called with at a point, the four windows' buffers at contents `Y`. -/
def bodyPre (Y : (w : Fin cfg0.W) → (cfg0.win w).block.Idx → Elt F (cfg0.win w).elt) : sProp 𝕄 :=
  iprop((data m c).Φ t.castSucc ∗ (data m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3))
/-- What it returns. -/
def bodyPost (Y : (w : Fin cfg0.W) → (cfg0.win w).block.Idx → Elt F (cfg0.win w).elt) : sProp 𝕄 :=
  iprop((data m c).Φ t.succ ∗ (data m c).owesAt () t.succ
    ∗ (∃ X, ⌜(data m c).after 0 t (Y 0) X⌝ ∗ owns (c : Thread nD τ) (st0_0 t) fullShare X)
    ∗ (∃ X, ⌜(data m c).after 1 t (Y 1) X⌝ ∗ owns (c : Thread nD τ) (st0_1 t) fullShare X)
    ∗ (∃ X, ⌜(data m c).after 2 t (Y 2) X⌝ ∗ owns (c : Thread nD τ) (st0_2 t) fullShare X)
    ∗ (∃ X, ⌜(data m c).after 3 t (Y 3) X⌝ ∗ owns (c : Thread nD τ) (st0_3 t) fullShare X))

/-- The body at a point, from what the buffers may hold there to what it may leave: `body_run` takes the buffers through
    `step`, and `step_inv` says that `step` keeps the invariants. -/
theorem sound_body (Y : (w : Fin cfg0.W) → (cfg0.win w).block.Idx → Elt F (cfg0.win w).elt) (hY : ∀ w, (data m c).Finds w t (Y w)) :
    bodyPre m c t Y ⊢ wp frame (wpE (defs₀ (F := F)) Variants.none c none) Set.univ (bodyAt0 t) (fun _ => bodyPost m c t Y) := by
  have h0 := found0 (hY 0)
  have h1 := found1 (hY 1)
  have h2 := found2 (hY 2)
  have h3 := found3 (hY 3)
  unfold bodyPre bodyPost bodyAt0
  rw [show (data m c).owesAt () t.succ = (data m c).owesAt () t.castSucc from rfl,
    show (data m c).Φ t.succ = Inv m c (t.val + 1) from rfl, show (data m c).Φ t.castSucc = Inv m c t.val from rfl]
  unfold Inv scratch
  iintro ⟨⟨⟨%S, %hS, H6, H7, H8, H9⟩, Hg⟩, HO, H2, H3, H4, H5⟩
  have hstep := step_inv (i := grid0.coords t) (n := t.val) (S := { S with out := Y 3 }) (qb := Y 1) (cb := Y 2)
    (X := X0 m c) (Q := Q0 m c) (C := C0 m c) (point_eq t)
    (fun h => h1.trans (iblk1_eq m c t h)) (fun h => h2.trans (iblk2_eq m c t h)) h3 ⟨hS.qc16, hS.cq16, hS.msg, hS.xcur⟩
  rw [← h0] at hstep
  iapply (body_run c (grid0.coords t) (win0_0.stage (cfg0.slots t 0)) _ (win0_1.stage (cfg0.slots t 1)) _ (win0_2.stage (cfg0.slots t 2)) _
    (win0_3.stage (cfg0.slots t 3)) _ (Memref.whole cc0_scratch0) _ (Memref.whole cc0_scratch1) _ (Memref.whole cc0_scratch2) _
    (Memref.whole cc0_scratch3) _ _ (Y 0) (Y 1) (Y 2) { S with out := Y 3 })
  unfold held
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H2, H3, H4, H5, H6, H7, H8, H9⟩
  isplitl [H6 H7 H8 H9 Hg]
  · isplitl [H6 H7 H8 H9]
    · iexists (step (grid0.coords t) (Y 0) (Y 1) (Y 2) { S with out := Y 3 })
      isplitr
      · ipureintro; exact h0 ▸ hstep.2
      isplitl [H6]; · iexact H6
      isplitl [H7]; · iexact H7
      isplitl [H8]; · iexact H8
      iexact H9
    iexact Hg
  isplitl [HO]; · iexact HO
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H5
  ipureintro; exact h0 ▸ hstep.1

/-- The body table's row at a point is the body as called there. -/
theorem defs₀_row : defs₀ (F := F) .tc cfg0.body (cfg0.bodyArgs t (cfg0.slots t)) = bodyAt0 t := by
  unfold defs₀; rw [Defs.onTc_tc]

/-- The body obligation of the proof data. -/
theorem body_obligation : (data m c).BodyObligation (defs₀ (F := F)) Variants.none () Set.univ := fun t Y hY => by
  rw [bigSep_W0, bigSep_W0, defs₀_row]
  exact triple_restated (sound_body m c t Y hY) rfl .rfl fun _ => .rfl

/-! ## The launch -/

/-- What the region hands over is the invariant before the first point. -/
theorem inv_in : (Pipeline.ΦA (U := UR sig nD τ) (Val := Elt F) spec0 c : sProp 𝕄) ⊢ (data m c).Φ 0 := by
  rw [show (data m c).Φ 0 = Inv m c 0 from rfl]
  unfold Pipeline.ΦA Inv scratch
  rw [scopedRest0_eq]
  simp only [owns_whole]
  iintro ⟨⟨⟨%f6, H6⟩, ⟨%f7, H7⟩, ⟨%f8, H8⟩, ⟨%f9, H9⟩⟩, Hg⟩
  isplitl [H6 H7 H8 H9]
  · iexists (⟨X0 m c, f6, f7, f8, f9⟩ : State F)
    isplitr
    · ipureintro; exact scrInv_zero _ _ _ _
    isplitl [H6]; · iexact H6
    isplitl [H7]; · iexact H7
    isplitl [H8]; · iexact H8
    iexact H9
  iexact Hg

/-- The invariant after the last point gives back what the region handed over. -/
theorem inv_out : (data m c).Φ (Fin.last cfg0.N) ⊢ (Pipeline.ΦA (U := UR sig nD τ) (Val := Elt F) spec0 c : sProp 𝕄) := by
  rw [show (data m c).Φ (Fin.last cfg0.N) = Inv m c cfg0.N from rfl]
  unfold Pipeline.ΦA Inv scratch
  rw [scopedRest0_eq]
  simp only [owns_whole]
  iintro ⟨⟨%S, -, H6, H7, H8, H9⟩, Hg⟩
  isplitl [H6 H7 H8 H9]
  · isplitl [H6]; · iexists _; iexact H6
    isplitl [H7]; · iexists _; iexact H7
    isplitl [H8]; · iexists _; iexact H8
    iexists _; iexact H9
  iexact Hg

/-- From any memory with zero counters every execution of `main` ends, with the arrays as the proof data say and every
    counter at zero. -/
theorem run_data :
    θ_run defs (onTc (τ := τ) (main (F := F))) (s₀ m ρ)
      (fun r => Pipeline.RDat.FramePost cfg0 (data m) (V m) r ∧ r.2.sem = fun _ => 0) :=
  Pipeline.RDat.θ_run_frame_track (Q' := fun r => Pipeline.RDat.FramePost cfg0 (data m) (V m) r ∧ r.2.sem = fun _ => 0)
    cfgs (0 : Fin 1) launch0 defs₀ Variants.none (data m) m ρ main
    (hbody := body_obligation m) (hshare := fun c w => (ite_self _ : (data m c).share w = fullShare))
    (howed := fun _ _ => rfl) (V := V m) (hmain := hmain m Variants.none) (hA := fun _ _ => rfl)
    (hin := fun c => inv_in m c) (hout := fun c => inv_out m c) (hQ' := fun _ h => h)

/-- The result array is written back once, whole, after the last point. -/
theorem whole3 : (cfg0.win 3).WholeAt ⟨191, by decide⟩ := by decide +kernel

/-- Every execution of `main` ends, with the operands as launched, the result the mean of the four layers, and every
    counter at zero. -/
theorem run_main :
    θ_run defs (onTc (τ := τ) (main (F := F))) (s₀ m ρ)
      (fun r => (∀ c : Dev nD, (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
        ∧ (r.2.mem ((c.tc : Thread nD τ).loc main_v0) : Vec F S4096x64 .f32) = assemble (mean3 (X0 m c) (Q0 m c) (C0 m c))) ∧ r.2.sem = fun _ => 0) :=
  (θ_run defs _ _).mono (fun r h => ⟨fun c => ⟨⟨h.1.arr_in c 0 rfl, h.1.arr_in c 1 rfl, h.1.arr_in c 2 rfl⟩, by
    obtain ⟨X, ⟨Y, -, hX⟩, hG⟩ := ((h.1 c).1 3).emb_eq_of_wholeAt whole3
    have hX' : OutInv (X0 m c) (Q0 m c) (C0 m c) 192 X := hX
    refine Eq.trans ?_ (outInv_end _ _ _ hX')
    funext j
    exact hG j⟩, h.2⟩) (run_data m ρ)

end Cert.Proof

end
-- ==== Proof.Same.lean ====
/-
  The kernel as printed and its ideal reading are one text, so their body tables are equal over any float values, and what
  is proved of the one program's run holds of the other's.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

/-- The kernels' body tables are equal, label by label. -/
theorem defs₀_same : Cert.Kernel.defs₀ (F := F) = Cert.KernelIdeal.defs₀ (F := F) := by
  refine congrArg Defs.onTc ?_
  funext l a
  fin_cases l
  rfl

/-- The tables with the pipelines' regions are equal. -/
theorem defs_same : Cert.Kernel.defs (F := F) = Cert.KernelIdeal.defs (F := F) :=
  congrArg (Pipeline.defs _) defs₀_same

end Cert.Proof

end
-- ==== Proof.Value.lean ====
/-
  The layers at the ideal values, whole: a product of one block of rows with an array is that block of rows of the whole
  product, so each of the kernel's arrays, assembled from its 32 blocks, is a matrix expression of the operands.
-/
module

public import proofs.«01_k».proof.Proof.Layers
public import Idealize.ShloMosaic.PureOps.Ideal
public import Idealize.ShloMosaic.PureOps.Ideal.Laws
public import Idealize.ShloMosaic.Lib.MatmulPlain
public import Idealize.ShloMosaic.Lib.Pipeline.Value

@[expose] public section

noncomputable section

namespace Cert.Proof

open Cert.KernelIdeal Cert.KernelIdeal.Gen
open Idealize.ShloMosaic

/-! ## The layers as matrix expressions -/

/-- The product of a square matrix with an array. -/
def mm (A : S4096x4096.Idx → EReal) (x : S4096x64.Idx → EReal) : S4096x64.Idx → EReal := fun y =>
  ∑ k : Fin 4096, A (ValueIdx.ix2 (n0 := 4096) (n1 := 4096) (y 0) k) * x (ValueIdx.ix2 (n0 := 4096) (n1 := 64) k (y 1))
/-- One layer: `C (Q x) + x`. -/
def layer (Q C : S4096x4096.Idx → EReal) (x : S4096x64.Idx → EReal) : S4096x64.Idx → EReal := fun y => mm C (mm Q x) y + x y
/-- What the kernel leaves: the embeddings given and the three layers' added up, times the constant 0.25. -/
def result (X : S4096x64.Idx → EReal) (Q C : S4096x4096.Idx → EReal) : S4096x64.Idx → EReal := fun y =>
  (((X y + layer Q C X y) + layer Q C (layer Q C X) y) + layer Q C (layer Q C (layer Q C X)) y) * Ideal.ofBits .f32 0x3E800000#32

/-! ## Blocks of rows -/

/-- An array assembled of its own blocks is the array. -/
theorem assemble_rows {α : Type} (x : S4096x64.Idx → α) : assemble (fun j => rows j x) = x :=
  (eq_assemble fun _ => rfl).symm

/-- The product of a block of rows, into zero, is the block of rows of the product. -/
theorem product_rows {φ₁ φ₂ : FTy} (j : Fin 32) (A : S4096x4096.Idx → EReal) (x : S4096x64.Idx → EReal) :
    (matmul (F := Ideal) (φ₁ := φ₁) (φ₂ := φ₂) dot_S128x4096_S4096x64_S128x64_1_0_0_1_n_n none (block j A) x (constant S128x64 .f32 0x00000000#32))
      = rows j (mm A x) := by
  funext y
  obtain ⟨r, c, rfl⟩ : ∃ (r : Fin 128) (c : Fin 64), y = ValueIdx.ix2 r c := ⟨y 0, y 1, by funext a; fin_cases a <;> rfl⟩
  refine (Ideal.matmul_plain_apply (M := 128) (K := 4096) (N := 64) none _ _ _ r c).trans ?_
  show Ideal.ofBits .f32 0x00000000#32 + _ = _
  rw [Ideal.ofBits_zero_f32, zero_add]
  unfold rows VecWindow.window mm
  refine Finset.sum_congr rfl fun k _ => ?_
  refine congrArg₂ (· * ·) (congrArg A (funext fun a => Fin.ext ?_)) (congrArg x (funext fun a => Fin.ext ?_))
  · fin_cases a
    · rfl
    · show 0 + 1 * k.val = k.val; omega
  · fin_cases a
    · rfl
    · show c.val = 0 + 1 * c.val; omega

section Layers
variable (X : Vec Ideal S4096x64 .f32) (Q C : Vec Ideal S4096x4096 .f32)

/-- The first layer's messages are `Q X`. -/
theorem msg1_eq : msg1 (F := Ideal) X Q = fun j => rows j (mm Q X) := by
  funext j
  unfold msg1 k0_pay3 k0_pay1
  exact (shapeCast_self _ _).trans (product_rows (φ₁ := .bf16) (φ₂ := .bf16) j Q X)

/-- A later layer's messages are `Q x`, on the resident rows and on the rows staged again alike. -/
theorem msgOf_eq (x : Vec Ideal S4096x64 .f32) : msgOf (F := Ideal) Q x = fun j => rows j (mm Q x) := by
  funext j
  unfold msgOf k0_pay12 k0_pay10 k0_pay11 k0_pay9 k0_pay2 k0_pay1
  refine (shapeCast_self _ _).trans ?_
  rw [shapeCast_self]
  split
  · exact product_rows (φ₁ := .bf16) (φ₂ := .bf16) j Q x
  · exact product_rows (φ₁ := .bf16) (φ₂ := .bf16) j Q x

/-- A later layer's propagated block is a block of `C M`, resident rows or not. -/
theorem resOf_eq (M : Vec Ideal S4096x64 .bf16) (j : Fin 32) : resOf (F := Ideal) C M j = rows j (mm C M) := by
  unfold resOf k0_pay13 k0_pay14 k0_pay5 k0_pay4
  rw [shapeCast_self]
  split
  · exact product_rows (φ₁ := .bf16) (φ₂ := .bf16) j C M
  · exact product_rows (φ₁ := .bf16) (φ₂ := .bf16) j C M

/-- The embeddings after the first layer. -/
theorem emb1_eq : emb1 (F := Ideal) X Q C = fun j => rows j (layer Q C X) := by
  funext j
  unfold emb1 k0_pay7 k0_pay6 k0_pay4
  rw [msg1_eq, assemble_rows]
  refine (shapeCast_self _ _).trans ?_
  exact congrArg (fun u : S128x64.Idx → EReal => fun y => u y + rows j X y) (product_rows (φ₁ := .bf16) (φ₂ := .bf16) j C (mm Q X))

/-- The running sum after the first layer. -/
theorem sum1_eq : sum1 (F := Ideal) X Q C = fun j => rows j fun y => X y + layer Q C X y := by
  funext j
  unfold sum1 k0_pay8 k0_pay6 k0_pay4
  rw [msg1_eq, assemble_rows, shapeCast_self]
  exact congrArg (fun u : S128x64.Idx → EReal => fun y => rows j X y + (u y + rows j X y)) (product_rows (φ₁ := .bf16) (φ₂ := .bf16) j C (mm Q X))

/-- The embeddings after the second layer. -/
theorem emb2_eq : emb2 (F := Ideal) X Q C = fun j => rows j (layer Q C (layer Q C X)) := by
  funext j
  unfold emb2 k0_pay16 k0_pay15 msg2
  rw [emb1_eq, assemble_rows, msgOf_eq, assemble_rows, resOf_eq, shapeCast_self]
  rfl

/-- The running sum after the second layer. -/
theorem sum2_eq : sum2 (F := Ideal) X Q C = fun j => rows j fun y => (X y + layer Q C X y) + layer Q C (layer Q C X) y := by
  funext j
  unfold sum2 k0_pay17 k0_pay15 msg2
  rw [emb1_eq, sum1_eq, assemble_rows, msgOf_eq, assemble_rows, resOf_eq, shapeCast_self]
  rfl

/-- The result's blocks are those of `result`. -/
theorem mean3_eq : mean3 (F := Ideal) X Q C = fun j => rows j (result X Q C) := by
  funext j
  unfold mean3 k0_pay18 k0_pay15 msg3
  rw [emb2_eq, sum2_eq, assemble_rows, msgOf_eq, assemble_rows, resOf_eq, shapeCast_self]
  rfl

/-- The kernel's result, whole. -/
theorem kernel_result : assemble (mean3 (F := Ideal) X Q C) = result X Q C := by
  rw [mean3_eq, assemble_rows]

end Layers

end Cert.Proof

end
-- ==== Proof.Reference.lean ====
/-
  The reference's result at the ideal values, read at an index: the mean over the stacked array's first axis is the sum of
  the four arrays stacked divided by 4, which is the kernel's sum times 0.25.
-/
module

public import proofs.«01_k».proof.Proof.Value
public import proofs.«01_k».proof.Proof.Gen.ReferenceIdeal.Run
public import Idealize.ShloMosaic.Lib.StackMember
public import Idealize.ShloMosaic.Lib.IdealHost
public import Idealize.ShloMosaic.Lib.Pointwise

@[expose] public section

noncomputable section

namespace Cert.Proof

open Cert.ReferenceIdeal Cert.ReferenceIdeal.Gen
open Idealize.ShloMosaic Idealize.ShloMosaic.TcCoe Idealize.SL.Sem

/-- The word `0x40800000` is the number 4. -/
theorem ofBits_four : Ideal.ofBits .f32 0x40800000#32 = ((4 : ℝ) : EReal) := by
  simp [Ideal.ofBits, Ideal.ieee, -EReal.coe_mul]; norm_num

/-- The word `0x3E800000` is the number 1/4. -/
theorem ofBits_quarter : Ideal.ofBits .f32 0x3E800000#32 = ((1 / 4 : ℝ) : EReal) := by
  simp [Ideal.ofBits, Ideal.ieee, -EReal.coe_mul]; norm_num

/-- The reference's product is the plain matrix product. -/
theorem reference_product (A : Vec Ideal S4096x4096 .f32) (x : Vec Ideal S4096x64 .f32) :
    (Host.dotGeneral (F := Ideal) (φ₁ := .f32) (φ₂ := .f32) dot_S4096x4096_S4096x64_S4096x64_1_0_0_1_n_n none A x : Vec Ideal S4096x64 .f32) = mm A x := by
  funext y
  obtain ⟨r, c, rfl⟩ : ∃ (r : Fin 4096) (c : Fin 64), y = ValueIdx.ix2 r c := ⟨y 0, y 1, by funext a; fin_cases a <;> rfl⟩
  exact StackMember.dotGeneral_plain_apply (m := 4096) (k := 4096) (n := 64) none A x r c

/-- One layer of the reference. -/
theorem reference_layer (Q C : Vec Ideal S4096x4096 .f32) (x : Vec Ideal S4096x64 .f32) :
    (addf (Host.dotGeneral (F := Ideal) (φ₁ := .f32) (φ₂ := .f32) dot_S4096x4096_S4096x64_S4096x64_1_0_0_1_n_n none C
        (Host.dotGeneral (F := Ideal) (φ₁ := .f32) (φ₂ := .f32) dot_S4096x4096_S4096x64_S4096x64_1_0_0_1_n_n none Q x)) x : Vec Ideal S4096x64 .f32) = layer Q C x := by
  rw [reference_product, reference_product]
  rfl

/-- The mean of four stacked arrays at an index. -/
theorem reference_mean (x₀ x₁ x₂ x₃ : Vec Ideal S4096x64 .f32) (y : S4096x64.Idx) :
    Host.divf (F := Ideal) (φ := .f32) (Host.reduceAdd (concatenate S4x4096x64 0
        [⟨S1x4096x64, broadcastInDim S1x4096x64 ![1, 2] bcast_S4096x64_S1x4096x64_1_2 x₀⟩,
         ⟨S1x4096x64, broadcastInDim S1x4096x64 ![1, 2] bcast_S4096x64_S1x4096x64_1_2 x₁⟩,
         ⟨S1x4096x64, broadcastInDim S1x4096x64 ![1, 2] bcast_S4096x64_S1x4096x64_1_2 x₂⟩,
         ⟨S1x4096x64, broadcastInDim S1x4096x64 ![1, 2] bcast_S4096x64_S1x4096x64_1_2 x₃⟩]
        concatenates_S1x4096x64_S1x4096x64_S1x4096x64_S1x4096x64_S4x4096x64_d0)
        (constant S_ .f32 0x00000000#32) reducesTo_S4x4096x64_S4096x64_d0 h_S_)
      (broadcastInDim S4096x64 ![] bcast_S_S4096x64 (constant S_ .f32 0x40800000#32)) y
    = (((x₀ y + x₁ y) + x₂ y) + x₃ y) * Ideal.ofBits .f32 0x3E800000#32 := by
  obtain ⟨r, c, rfl⟩ : ∃ (r : Fin 4096) (c : Fin 64), y = ValueIdx.ix2 r c := ⟨y 0, y 1, by funext a; fin_cases a <;> rfl⟩
  pointwise
  rw [ofBits_quarter, ofBits_four, Ideal.div_coe (by norm_num), Fin.sum_univ_four]
  simp

variable (m' : (ℓ : Loc nD τ sig) → Buf (Elt Ideal) ℓ) (ρ : Dev nD → PrngReg)

/-- The reference's run: its result is `result` of its arguments' contents at the launch, and the arguments are unchanged. -/
theorem reference_run :
    θ_run defs (onTc (τ := τ) (main (F := Ideal))) ⟨m', fun _ => 0, ρ⟩ fun r => ∀ c : Dev nD,
      (r.2.mem ((c.tc : Thread nD τ).loc main_v16) : Vec Ideal S4096x64 .f32)
        = result (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run defs _ _).mono (fun r h c => ⟨(h c).1.trans ?_, (h c).2⟩) (Cert.ReferenceIdeal.Value.run (F := Ideal) m' ρ)
  have hl := reference_layer (m' ((c.tc : Thread nD τ).loc main_arg1)) (m' ((c.tc : Thread nD τ).loc main_arg2))
  rw [hl, hl, hl]
  funext y
  exact reference_mean _ _ _ _ y

end Cert.Proof

end
-- ==== Proof.lean ====
/-
  The certificate: the frame of the kernel as printed and at the ideal values, the frame of the reference, and the equality of
  the two results at the ideal values. The kernel's run is stated and proved once, over any float values (`run_main`,
  Proof/Run.lean); its result as a matrix expression is Proof/Value.lean's, the reference's Proof/Reference.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Same
public import proofs.«01_k».proof.Proof.Value
public import proofs.«01_k».proof.Proof.Reference
public import Idealize.ShloMosaic.Lib.Quiescent

@[expose] public section

noncomputable section

namespace Cert.Proof

open Idealize.ShloMosaic Idealize.SL.Sem

/-- The frame over any float values: the kernel terminates without a fault, leaves its arguments as they were and every
    semaphore at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).1, h.2⟩) (run_main m ρ)

/-- The frame of the kernel as printed, at the bit-level float values: its text is that of the ideal reading. -/
theorem frame_kernel : Cert.quiescent_Kernel := by
  intro m ρ _
  have h := frame_any (F := Bits) m ρ
  rw [← defs_same] at h
  exact h

/-- The frame of the kernel at the ideal values. -/
theorem frame_kernelIdeal : Cert.quiescent_KernelIdeal := fun m ρ _ => frame_any (F := Ideal) m ρ

/-- The reference terminates without a fault and leaves its arguments as they were; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (reference_run m ρ)

/-- No operation is rewritten between the kernel as printed and its ideal reading. -/
theorem preserves : Cert.preserves_Kernel_KernelIdeal := trivial

/-- At the ideal values, from equal arguments, the kernel and the reference end with the same result: the mean of the
    embeddings given and those after each of the three layers. -/
theorem algebraic : Cert.algebraic_KernelIdeal_ReferenceIdeal := by
  intro m ρ m' ρ' _ hm
  refine ⟨fun c => result (X0 m c) (Q0 m c) (C0 m c), ?_, ?_⟩
  · exact (θ_run Cert.KernelIdeal.defs _ _).mono
      (fun _ h c => ⟨(h.1 c).2.trans (kernel_result _ _ _), (h.1 c).1⟩) (run_main (F := Ideal) m ρ)
  · refine (θ_run Cert.ReferenceIdeal.defs _ _).mono (fun _ h c => ⟨(h c).1.trans ?_, (h c).2⟩) (reference_run m' ρ')
    obtain ⟨h0, h1, h2⟩ := hm c
    rw [h0, h1, h2]

/-- The five claims together. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
